-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S8192 : Shape := ⟨1, ![8192]⟩
abbrev S8192x8192 : Shape := ⟨2, ![8192, 8192]⟩
abbrev S128x8192 : Shape := ⟨2, ![128, 8192]⟩
abbrev S1x8192 : Shape := ⟨2, ![1, 8192]⟩
abbrev S128x1 : Shape := ⟨2, ![128, 1]⟩
abbrev S8192x512 : Shape := ⟨2, ![8192, 512]⟩
abbrev S1x512 : Shape := ⟨2, ![1, 512]⟩
abbrev S128x512 : Shape := ⟨2, ![128, 512]⟩
abbrev S128 : Shape := ⟨1, ![128]⟩
abbrev S128x256 : Shape := ⟨2, ![128, 256]⟩

abbrev nBuf : Space → Nat
  | .hbm => 12
  | .vmem => 12
  | .smem => 0
  | _ => 0

abbrev bufTy : (tb : Table) → Fin (tcTables nBuf tb) → BufTy
  | .hbm, ⟨0, _⟩ => ⟨S128x1x8192, .f32⟩
  | .hbm, ⟨1, _⟩ => ⟨S8192, .f32⟩
  | .hbm, ⟨2, _⟩ => ⟨S8192x8192, .fp8e4m3⟩
  | .hbm, ⟨3, _⟩ => ⟨S8192, .f32⟩
  | .hbm, ⟨4, _⟩ => ⟨S8192, .f32⟩
  | .hbm, ⟨5, _⟩ => ⟨S128x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S128x8192, .f32⟩
  | .hbm, ⟨10, _⟩ => ⟨S128x8192, .fp8e4m3⟩
  | .hbm, ⟨11, _⟩ => ⟨S128x1, .f32⟩
  | .local _ .vmem, ⟨0, _⟩ => ⟨S128x8192, .f32⟩
  | .local _ .vmem, ⟨1, _⟩ => ⟨S1x8192, .f32⟩
  | .local _ .vmem, ⟨2, _⟩ => ⟨S8192x512, .fp8e4m3⟩
  | .local _ .vmem, ⟨3, _⟩ => ⟨S8192x512, .fp8e4m3⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S128x512, .f32⟩
  | .local _ .vmem, ⟨9, _⟩ => ⟨S128x512, .f32⟩
  | .local _ .vmem, ⟨10, _⟩ => ⟨S128x8192, .fp8e4m3⟩
  | .local _ .vmem, ⟨11, _⟩ => ⟨S128x1, .f32⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S128x1x8192 : Shape := ⟨3, ![128, 1, 8192]⟩
abbrev S8192 : Shape := ⟨1, ![8192]⟩
abbrev S8192x8192 : Shape := ⟨2, ![8192, 8192]⟩
abbrev S128x8192 : Shape := ⟨2, ![128, 8192]⟩
abbrev S1x8192 : Shape := ⟨2, ![1, 8192]⟩
abbrev S128x1 : Shape := ⟨2, ![128, 1]⟩
abbrev S128 : Shape := ⟨1, ![128]⟩
abbrev S128x254 : Shape := ⟨2, ![128, 254]⟩

abbrev nBuf : Space → Nat
  | .hbm => 12
  | .vmem => 8
  | .smem => 0
  | _ => 0

abbrev bufTy : (tb : Table) → Fin (tcTables nBuf tb) → BufTy
  | .hbm, ⟨0, _⟩ => ⟨S128x1x8192, .f32⟩
  | .hbm, ⟨1, _⟩ => ⟨S8192, .f32⟩
  | .hbm, ⟨2, _⟩ => ⟨S8192x8192, .fp8e4m3⟩
  | .hbm, ⟨3, _⟩ => ⟨S8192, .f32⟩
  | .hbm, ⟨4, _⟩ => ⟨S8192, .f32⟩
  | .hbm, ⟨5, _⟩ => ⟨S128x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S128x8192, .f32⟩
  | .hbm, ⟨10, _⟩ => ⟨S128x8192, .fp8e4m3⟩
  | .hbm, ⟨11, _⟩ => ⟨S128x1, .f32⟩
  | .local _ .vmem, ⟨0, _⟩ => ⟨S128x8192, .f32⟩
  | .local _ .vmem, ⟨1, _⟩ => ⟨S1x8192, .f32⟩
  | .local _ .vmem, ⟨2, _⟩ => ⟨S8192x8192, .fp8e4m3⟩
  | .local _ .vmem, ⟨3, _⟩ => ⟨S1x8192, .f32⟩
  | .local _ .vmem, ⟨4, _⟩ => ⟨S1x8192, .f32⟩
  | .local _ .vmem, ⟨5, _⟩ => ⟨S128x8192, .f32⟩
  | .local _ .vmem, ⟨6, _⟩ => ⟨S128x8192, .fp8e4m3⟩
  | .local _ .vmem, ⟨7, _⟩ => ⟨S128x1, .f32⟩
  | _, _ => ⟨S128x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.lean ====
/- The body of the idealized kernel at one grid point. At the first point the body stores the codes and the scale
   and then forms its block of `y` from what it has just stored. At every other point it only forms its block of `y`,
   from the codes and the scale that it finds in the two output buffers. -/
module

public import proofs.«01_k».proof.Proof.Gen.KernelIdeal.Frame
public import proofs.«01_k».proof.Proof.Gen.KernelIdeal.Skeleton
public import Idealize.ShloMosaic.Lib.Pipeline.TableIdle
public import Idealize.ShloMosaic.Lib.Pipeline.Value

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Each window's current staging memref at point `t`, spelled as the pipeline passes it (`bodyAt0`), and its wholeness. -/
abbrev ms0_0 (t : Fin cfg0.N) : Memref sig .tc .vmem S128x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)

/-- The codes that the first point stores, from the block of `x` and the row of smoothing factors. -/
def codesOf (x0 : Vec F S128x8192 .f32) (x1 : Vec F S1x8192 .f32) : Vec F S128x8192 .fp8e4m3 :=
  k0_pay2 (k0_pay4 x0 x1) (k0_pay5 x0 x1)

/-- The scale that the first point stores. -/
def scaleOf (x0 : Vec F S128x8192 .f32) (x1 : Vec F S1x8192 .f32) : Vec F S128x1 .f32 :=
  k0_pay1 (k0_pay6 x0 x1) 0#32

/-- The origin of a two-dimensional box, as the function that is zero everywhere. -/
theorem origin : (![0, 0] : Fin 2 → Nat) = fun _ => 0 := by decide

/-- A load of a whole buffer whose contents read as `x` gives `x`. -/
theorem readAt_whole {S : Shape} {e : EltTy} {sp : Space} (v : View sig .tc sp S e) (f : v.ty.Contents (Elt F)) (x : S.Idx → Elt F e)
    (hf : v.read (Elt F) f = x) {off : Fin S.rank → Nat} (h : off = fun _ => 0) (inb : ∀ a, off a + S.size a ≤ S.size a) :
    v.readAt (Elt F) (Rect.unit off S.size inb).toLoadRect f = x := by
  rw [View.readAt_eq_ld, View.ld_unit_zero h, hf]

/-- A buffer whose last store covered it whole reads as what was stored. -/
theorem read_writes_whole {S : Shape} {e : EltTy} {sp : Space} (v : View sig .tc sp S e) (f : v.ty.Contents (Elt F)) (w : S.Idx → Elt F e)
    {off : Fin S.rank → Nat} (h : off = fun _ => 0) (inb : ∀ a, off a + S.size a ≤ S.size a) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

set_option maxHeartbeats 1000000 in
/-- The body at the first point. -/
theorem bodyA (c : Dev nD) (i : grid0.Coords) (arg1 : Memref sig .tc .vmem S128x8192 .f32) (harg1 : arg1.IsWhole) (arg2 : Memref sig .tc .vmem S1x8192 .f32) (harg2 : arg2.IsWhole) (arg3 : Memref sig .tc .vmem S8192x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S128x512 .f32) (harg6 : arg6.IsWhole) (arg7 : Memref sig .tc .vmem S128x8192 .fp8e4m3) (harg7 : arg7.IsWhole) (arg8 : Memref sig .tc .vmem S128x1 .f32) (harg8 : arg8.IsWhole) (hc0 : cond0_0 i)
    (x0 : Vec F S128x8192 .f32) (x1 : Vec F S1x8192 .f32) (x2 : Vec F S8192x512 .fp8e4m3) (x3 : Vec F S1x512 .f32) (x4 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 (codesOf x0 x1) x2 (scaleOf x0 x1) x3 x4) ∗ owns (c : Thread nD τ) arg7 fullShare (codesOf x0 x1) ∗ owns (c : Thread nD τ) arg8 fullShare (scaleOf x0 x1)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      sl_unfold_words
      refine (read_writes_whole (S := S128x512) _ _ _ origin _).trans ?_
      rw [View.readCov_unit_zero (S := S128x8192) _ origin, View.readCov_unit_zero (S := S128x1) _ origin]
      rw [readAt_whole (S := S128x8192) arg1.view _ _ hf0 origin, readAt_whole (S := S1x8192) arg2.view _ _ hf1 origin, readAt_whole (S := S8192x512) arg3.view _ _ hf2 origin,
        readAt_whole (S := S1x512) arg4.view _ _ hf3 origin, readAt_whole (S := S1x512) arg5.view _ _ hf4 origin]
      rfl
    isplitl [H6]
    · iexists _; isplitr; swap; · iexact H6
      ipureintro
      sl_unfold_words
      refine (read_writes_whole (S := S128x8192) _ _ _ origin _).trans ?_
      rw [readAt_whole (S := S128x8192) arg1.view _ _ hf0 origin, readAt_whole (S := S1x8192) arg2.view _ _ hf1 origin]
      rfl
    iexists _; isplitr; swap; · iexact H7
    ipureintro
    sl_unfold_words
    refine (read_writes_whole (S := S128x1) _ _ _ origin _).trans ?_
    rw [readAt_whole (S := S128x8192) arg1.view _ _ hf0 origin, readAt_whole (S := S1x8192) arg2.view _ _ hf1 origin]
    rfl

set_option maxHeartbeats 1000000 in
/-- The body at any other point. -/
theorem bodyB (c : Dev nD) (i : grid0.Coords) (arg1 : Memref sig .tc .vmem S128x8192 .f32) (harg1 : arg1.IsWhole) (arg2 : Memref sig .tc .vmem S1x8192 .f32) (harg2 : arg2.IsWhole) (arg3 : Memref sig .tc .vmem S8192x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S128x512 .f32) (harg6 : arg6.IsWhole) (arg7 : Memref sig .tc .vmem S128x8192 .fp8e4m3) (harg7 : arg7.IsWhole) (arg8 : Memref sig .tc .vmem S128x1 .f32) (harg8 : arg8.IsWhole) (hc0 : ¬cond0_0 i)
    (x0 : Vec F S128x8192 .f32) (x1 : Vec F S1x8192 .f32) (x2 : Vec F S8192x512 .fp8e4m3) (x3 : Vec F S1x512 .f32) (x4 : Vec F S1x512 .f32) (x6 : Vec F S128x8192 .fp8e4m3) (x7 : Vec F S128x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x6 x2 x7 x3 x4) ∗ owns (c : Thread nD τ) arg7 fullShare (x6) ∗ owns (c : Thread nD τ) arg8 fullShare (x7)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (read_writes_whole (S := S128x512) _ _ _ origin _).trans ?_
      rw [readAt_whole (S := S128x8192) arg7.view _ _ hf6 origin, readAt_whole (S := S128x1) arg8.view _ _ hf7 origin, readAt_whole (S := S8192x512) arg3.view _ _ hf2 origin,
        readAt_whole (S := S1x512) arg4.view _ _ hf3 origin, readAt_whole (S := S1x512) arg5.view _ _ hf4 origin]
    isplitl [H6]
    · iexists _; isplitr; · ipureintro; exact harg7.read_unread _
      iexact H6
    iexists _; isplitr; · ipureintro; exact harg8.read_unread _
    iexact H7

end Cert.KernelIdeal.Run

end
-- ==== Proof.Run.lean ====
/- The run of the idealized kernel. The proof data say what each staging buffer holds after the body at each point:
   the inputs their blocks, `y` its block, and the two outputs that only the first point stores the codes and the scale,
   from the first point on. From them come the body obligation, the run and the frame claim. -/
module

public import proofs.«01_k».proof.Proof.Body
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of `x`, the same at every point. -/
def xBlk (c : Dev nD) : Vec F S128x8192 .f32 := iblk m c 0 t0_0
/-- The row of smoothing factors, the same at every point. -/
def sBlk (c : Dev nD) : Vec F S1x8192 .f32 := iblk m c 1 t0_0

theorem iblk0_const (c : Dev nD) (t : Fin cfg0.N) : iblk m c 0 t = xBlk m c := rfl
theorem iblk1_const (c : Dev nD) (t : Fin cfg0.N) : iblk m c 1 t = sBlk m c := rfl

/-- The codes and the scale of the run. -/
def codes (c : Dev nD) : Vec F S128x8192 .fp8e4m3 := codesOf (xBlk m c) (sBlk m c)
def scale (c : Dev nD) : Vec F S128x1 .f32 := scaleOf (xBlk m c) (sBlk m c)

/-- The block of `y` that point `t` stores. -/
def yBlk (c : Dev nD) (t : Fin cfg0.N) : Vec F S128x512 .f32 :=
  k0_pay3 (codes m c) (iblk m c 2 t) (scale m c) (iblk m c 3 t) (iblk m c 4 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yBlk m c t
    | ⟨6, _⟩ => codes m c
    | ⟨7, _⟩ => scale m c
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yBlk m c t := by dsimp only [dats]
theorem after0_6 (c : Dev nD) (t : Fin cfg0.N) : (dats m 0 c).after 6 t = codes m c := by dsimp only [dats]
theorem after0_7 (c : Dev nD) (t : Fin cfg0.N) : (dats m 0 c).after 7 t = scale m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Only the first point finds the codes' buffer fresh. -/
theorem fresh6 : ∀ t : Fin cfg0.N, cfg0.fresh 6 t.val = decide (t.val = 0) := by decide +kernel
theorem fresh7 : ∀ t : Fin cfg0.N, cfg0.fresh 7 t.val = decide (t.val = 0) := by decide +kernel

/-- After the first point the codes' buffer holds the codes. -/
theorem before0_6 (c : Dev nD) (t : Fin cfg0.N) (ht : t.val ≠ 0) (d) : (dats m 0 c).before 6 t d = codes m c := by
  rw [(dats m 0 c).before_out_traj 6 rfl (fun _ _ => rfl) (fun t _ _ _ => by rw [after0_6, after0_6]) t.val t rfl d, fresh6, if_neg (by simpa using ht), after0_6]
/-- After the first point the scale's buffer holds the scale. -/
theorem before0_7 (c : Dev nD) (t : Fin cfg0.N) (ht : t.val ≠ 0) (d) : (dats m 0 c).before 7 t d = scale m c := by
  rw [(dats m 0 c).before_out_traj 7 rfl (fun _ _ => rfl) (fun t _ _ _ => by rw [after0_7, after0_7]) t.val t rfl d, fresh7, if_neg (by simpa using ht), after0_7]

/-- `y` is stored at every point, the codes and the scale at the first point. -/
theorem liveAt0_5 : ∀ t : Fin cfg0.N, cfg0.idle 5 (grid0.coords t) = false := fun _ => rfl
theorem liveAt0_6 : ∀ t : Fin cfg0.N, t.val % 16 = 0 → cfg0.idle 6 (grid0.coords t) = false := by decide +kernel
theorem liveAt0_7 : ∀ t : Fin cfg0.N, t.val % 16 = 0 → cfg0.idle 7 (grid0.coords t) = false := by decide +kernel

/-- At a later point the buffer of the codes is handed back as the codes, whether the point writes it back or not. -/
theorem leaves6 (c : Dev nD) (t : Fin cfg0.N) (ht : t.val ≠ 0) :
    owns (c : Thread nD τ) (ms0_6 t) fullShare (codes m c) ⊢ ((dats m 0 c).leavesExact 6 t : sProp 𝕄) := by
  unfold Dat.leavesExact
  cases cfg0.idle 6 (cfg0.grid.coords t)
  · dsimp only; rw [after0_6]
  · cases (cfg0.win 6).flush t
    · dsimp only; iintro H; iexists (fun _ => Classical.arbitrary _); rw [before0_6 m c t ht]; iexact H
    · dsimp only; rw [after0_6]

/-- At a later point the buffer of the scale is handed back as the scale, whether the point writes it back or not. -/
theorem leaves7 (c : Dev nD) (t : Fin cfg0.N) (ht : t.val ≠ 0) :
    owns (c : Thread nD τ) (ms0_7 t) fullShare (scale m c) ⊢ ((dats m 0 c).leavesExact 7 t : sProp 𝕄) := by
  unfold Dat.leavesExact
  cases cfg0.idle 7 (cfg0.grid.coords t)
  · dsimp only; rw [after0_7]
  · cases (cfg0.win 7).flush t
    · dsimp only; iintro H; iexists (fun _ => Classical.arbitrary _); rw [before0_7 m c t ht]; iexact H
    · dsimp only; rw [after0_7]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t h0], after0_6]
    rw [show (dats m 0 c).leavesExact 7 t = owns (c : Thread nD τ) (ms0_7 t) fullShare ((dats m 0 c).after 7 t) from by
      unfold Dat.leavesExact; rw [liveAt0_7 t h0], after0_7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((bodyA c (grid0.coords t) _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h1 : t.val ≠ 0 := fun h => h0 (by rw [h])
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((bodyB c (grid0.coords t) _ _ _ _ _ _ _ _ _ _ _ _ _ _ _ _ (fun h => h0 ((hcond0_0 t).mp h)) (iblk m c 0 t) (iblk m c 1 t) (iblk m c 2 t) (iblk m c 3 t) (iblk m c 4 t) (codes m c) (scale m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · rw [before0_6 m c t h1]; iexact H6
    isplitl [H7]; · rw [before0_7 m c t h1]; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t h1); iexact H6
    iapply (leaves7 m c t h1); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.KernelFrame.lean ====
/- The frame of the kernel as it is printed. Its text is the idealized kernel's, since the ideal pass rewrote nothing: the
   two programs are one term, up to the names of their definitions. So the frame run of the idealized kernel, which holds at
   any values, is the printed kernel's at the bit patterns. -/
module

public import proofs.«01_k».proof.Defs
public import proofs.«01_k».proof.Proof.Gen.Kernel
public import proofs.«01_k».proof.Proof.Run

@[expose] public section

set_option maxRecDepth 16384

noncomputable section

namespace Cert.Proof

open Idealize.ShloMosaic Idealize.SL.Sem

variable {F : FTy → Type} [FloatOps F]

/-- The two programs run the same bodies. -/
theorem bodies_eq : (Cert.Kernel.defs₀ (F := F)) = Cert.KernelIdeal.defs₀ (F := F) := by
  unfold Cert.Kernel.defs₀ Cert.KernelIdeal.defs₀
  refine congrArg Defs.onTc ?_
  funext ℓ a
  match ℓ, a with
  | ⟨0, _⟩, (t, s) => rfl

/-- The two programs have the same body tables. -/
theorem defs_eq : (Cert.Kernel.defs (F := F)) = Cert.KernelIdeal.defs (F := F) :=
  congrArg (Idealize.ShloMosaic.Pipeline.defs Cert.KernelIdeal.pcfgs) bodies_eq

/-- The printed kernel runs to the end from any memory, and ends with its arguments unchanged and its counters at zero. -/
theorem kernel_frame : Cert.quiescent_Kernel (hKernel := Cert.Kernel.Gen.facts) := fun m ρ _ => by
  rw [defs_eq]
  exact Cert.KernelIdeal.Run.frame (F := Bits) m ρ

end Cert.Proof

end
-- ==== Proof.Pow.lean ====
/- Powers of two by their exponent field: the f32 pattern with exponent field `k` and no other bit set, read as an extended
   real. Between the fields 1 and 254 it is 2^(k - 127), at 0 it is zero and at 255 it is +∞. -/
module

public import Idealize.ShloMosaic.PureOps.Ideal
public import Idealize.ShloMosaic.PureOps.Ideal.Laws

@[expose] public section

noncomputable section

namespace Cert.Quant

open Idealize.ShloMosaic

/-- The value of the f32 pattern whose exponent field is `k` and whose other bits are zero. -/
def pow (k : ℕ) : EReal := Ideal.ofBits .f32 (BitVec.ofNat 32 k <<< 23)

theorem pow_zero : pow 0 = 0 := by simp [pow, Ideal.ofBits, Ideal.ieee]
theorem pow_255 : pow 255 = ⊤ := by simp [pow, Ideal.ofBits, Ideal.ieee]

/-- The three fields of the pattern. -/
theorem fields : ∀ k : Fin 256, ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by decide +kernel

/-- A pattern with sign and significand fields zero and exponent field `k` is 2^(k - 127). -/
theorem ieee_of (b : BitVec 32) (k : ℕ) (hn : (b.extractLsb' (8 + 23) 1 == 1#1) = false)
    (he : (b.extractLsb' 23 8).toNat = k) (hf : (b.extractLsb' 0 23).toNat = 0) (h1 : 1 ≤ k) (h2 : k ≤ 254) :
    Ideal.ieee 8 23 b = (((2 : ℝ) ^ ((k : ℤ) - 127) : ℝ) : EReal) := by
  unfold Ideal.ieee
  simp only [hn, he, hf]
  rw [if_neg (by omega), if_neg (by omega)]
  congr 1
  simp only [Bool.false_eq_true, if_false, one_mul, Nat.add_zero, Nat.cast_pow, Nat.cast_ofNat]
  rw [← zpow_natCast, ← zpow_add₀ (by norm_num)]
  congr 1
  push_cast
  ring

theorem pow_of {k : ℕ} (h1 : 1 ≤ k) (h2 : k ≤ 254) : pow k = (((2 : ℝ) ^ ((k : ℤ) - 127) : ℝ) : EReal) :=
  have h := fields ⟨k, by omega⟩
  ieee_of _ k h.1 h.2.1 h.2.2 h1 h2

theorem pow_127 : pow 127 = 1 := by rw [pow_of (by norm_num) (by norm_num)]; norm_num

theorem pow_lt {j k : ℕ} (hjk : j < k) (hk : k ≤ 255) : pow j < pow k := by
  rcases Nat.lt_or_ge 254 k with h | h
  · obtain rfl : k = 255 := by omega
    rw [pow_255]
    rcases Nat.eq_zero_or_pos j with rfl | hj
    · rw [pow_zero]; exact EReal.zero_lt_top
    · rw [pow_of hj (by omega)]; exact EReal.coe_lt_top _
  · rw [pow_of (by omega) h]
    rcases Nat.eq_zero_or_pos j with rfl | hj
    · rw [pow_zero]; exact_mod_cast zpow_pos (by norm_num : (0 : ℝ) < 2) _
    · rw [pow_of hj (by omega)]
      exact EReal.coe_lt_coe_iff.2 (zpow_lt_zpow_right₀ (by norm_num : (1 : ℝ) < 2) (by omega))

theorem pow_le {j k : ℕ} (hjk : j ≤ k) (hk : k ≤ 255) : pow j ≤ pow k := by
  rcases hjk.lt_or_eq with h | rfl
  · exact (pow_lt h hk).le
  · exact le_rfl

theorem pow_lt_iff {j k : ℕ} (hj : j ≤ 255) (hk : k ≤ 255) : pow j < pow k ↔ j < k :=
  ⟨fun h => by by_contra hc; exact absurd (pow_le (not_lt.1 hc) hj) (not_le.2 h), fun h => pow_lt h hk⟩

/-- The reference's guarded inverse of a power of two. -/
theorem inverse {s : ℕ} (h1 : 1 ≤ s) (h2 : s ≤ 255) :
    (if pow s < pow 254 then Ideal.div (pow 127) (pow s) else 0) = pow (254 - s) := by
  rcases Nat.lt_or_ge s 254 with h | h
  · rw [if_pos (pow_lt h (by norm_num)), pow_127, pow_of h1 (by omega), Ideal.div_coe (by positivity), one_mul,
      pow_of (by omega) (by omega), one_div, ← zpow_neg]
    congr 2
    push_cast [Nat.cast_sub h.le]
    ring
  · rw [if_neg (by rw [pow_lt_iff h2 (by norm_num)]; omega), show 254 - s = 0 by omega, pow_zero]

/-- Every nonnegative value has a level: the number `n` of the fields 1 to 255 whose power of two it reaches. -/
def Level (r : EReal) (n : ℕ) : Prop := n ≤ 255 ∧ ∀ k, 1 ≤ k → k ≤ 255 → (pow k ≤ r ↔ k ≤ n)

theorem exists_level (r : EReal) : ∃ n, Level r n := by
  classical
  refine ⟨Nat.findGreatest (fun k => 1 ≤ k ∧ pow k ≤ r) 255, Nat.findGreatest_le _, fun k h1 h2 => ⟨fun h => ?_, fun h => ?_⟩⟩
  · exact Nat.le_findGreatest h2 ⟨h1, h⟩
  · have h0 : Nat.findGreatest (fun k => 1 ≤ k ∧ pow k ≤ r) 255 ≠ 0 := by omega
    exact (pow_le h (Nat.findGreatest_le _)).trans (Nat.findGreatest_of_ne_zero rfl h0).2

/-- The field of the scale at level `n`: one above it, or 1's where the value is below the least power or infinite. -/
def field (n : ℕ) : ℕ := if n = 0 ∨ n = 255 then 127 else n + 1

theorem field_pos (n : ℕ) : 1 ≤ field n := by unfold field; split <;> omega
theorem field_le {n : ℕ} (h : n ≤ 255) : field n ≤ 255 := by unfold field; split <;> omega

/-- The least of the powers above a value, from +∞, is the next power after its level. -/
theorem least_above {r : EReal} {n : ℕ} (h : Level r n) (hn : n ≠ 255) :
    (Finset.univ : Finset (Fin 254)).fold min ⊤ (fun j => if r < pow (j.val + 1) then pow (j.val + 1) else ⊤) = pow (n + 1) := by
  obtain ⟨hn', hl⟩ := h
  have above : ∀ k, 1 ≤ k → k ≤ 255 → (r < pow k ↔ n < k) := fun k h1 h2 => by
    rw [← not_le, hl k h1 h2, not_le]
  apply le_antisymm
  · rcases Nat.lt_or_ge n 254 with h | h
    · refine (Finset.fold_min_le _).2 (Or.inr ⟨⟨n, h⟩, Finset.mem_univ _, ?_⟩)
      rw [if_pos ((above _ (by omega) (by omega)).2 (by simp))]
    · obtain rfl : n = 254 := by omega
      rw [pow_255]; exact le_top
  · refine (Finset.le_fold_min _).2 ⟨le_top, fun j _ => ?_⟩
    split
    · next hj => exact pow_le (by have := (above (j.val + 1) (by omega) (by omega)).1 hj; omega) (by omega)
    · exact le_top

/-- The reference's scale of a value, at its level. -/
theorem scale_at {r : EReal} {n : ℕ} (h : Level r n) :
    (if r < pow 1 ∨ r = pow 255 then pow 127 else
      (Finset.univ : Finset (Fin 254)).fold min ⊤ (fun j => if r < pow (j.val + 1) then pow (j.val + 1) else ⊤)) = pow (field n) := by
  have h0 : r < pow 1 ↔ n = 0 := by rw [← not_le, h.2 1 le_rfl (by norm_num)]; omega
  have h1 : r = pow 255 ↔ n = 255 := by
    have := h.2 255 (by norm_num) le_rfl
    rw [pow_255, ← top_le_iff, ← pow_255, this]; have := h.1; omega
  unfold field
  simp only [h0, h1]
  by_cases hc : n = 0 ∨ n = 255
  · rw [if_pos hc, if_pos hc]
  · rw [if_neg hc, if_neg hc, least_above h (fun e => hc (Or.inr e))]

/-- Counting the fields whose power a value reaches gives its level. -/
theorem card_level {r : EReal} {n : ℕ} (h : Level r n) :
    ((Finset.univ : Finset (Fin 256)).filter fun k => 0 < k.val ∧ pow k.val ≤ r).card = n := by
  have e : ((Finset.univ : Finset (Fin 256)).filter fun k => 0 < k.val ∧ pow k.val ≤ r).map Fin.valEmbedding = Finset.Icc 1 n := by
    ext k
    simp only [Finset.mem_map, Finset.mem_filter, Finset.mem_univ, true_and, Fin.valEmbedding_apply, Finset.mem_Icc]
    constructor
    · rintro ⟨j, ⟨hj, hp⟩, rfl⟩
      exact ⟨hj, (h.2 _ hj (by omega)).1 hp⟩
    · rintro ⟨h1, h2⟩
      have := h.1
      exact ⟨⟨k, by omega⟩, ⟨h1, (h.2 k h1 (by omega)).2 h2⟩, rfl⟩
  rw [← Finset.card_map Fin.valEmbedding, e, Nat.card_Icc]; omega

/-! ### The kernel's words -/

/-- The exponent the kernel makes of the count. -/
def expo (n : BitVec 32) : BitVec 32 := if n = 0#32 ∨ n = 255#32 then 0#32 else n - 126#32

/-- The kernel's field of 2^e. -/
def clip (e : BitVec 32) : BitVec 32 := IntOp.minsi 255#32 (IntOp.maxsi 0#32 (e + 127#32))

theorem clip_expo : ∀ n : Fin 256, clip (expo (BitVec.ofNat 32 n.val)) = BitVec.ofNat 32 (field n.val)
    ∧ clip (0#32 - expo (BitVec.ofNat 32 n.val)) = BitVec.ofNat 32 (254 - field n.val) := by decide +kernel

end Cert.Quant

end
-- ==== Proof.Rows.lean ====
/- Row reductions of a matrix kept as a column, and rows spread over a matrix, read at an index. -/
module

public import proofs.«01_k».proof.Proof.Pow
public import Idealize.ShloMosaic.PureOps.Ideal.Laws
public import Idealize.ShloMosaic.Lib.WordSum
public import Idealize.ShloMosaic.Lib.ValueIdxCore
public import Idealize.ShloMosaic.Lib.Pipeline.Value

@[expose] public section

noncomputable section

namespace Cert.Quant

open Idealize.ShloMosaic Idealize.ShloMosaic.ValueIdx

variable {M N : ℕ}

/-- The row of a column's index. -/
def rowOf (i : (⟨2, ![M, 1]⟩ : Shape).Idx) : Fin M := i 0

/-- A column's one coordinate on its unit axis is zero. -/
theorem unit_axis (i : (⟨2, ![M, 1]⟩ : Shape).Idx) : (i 1).val = 0 := by
  have : (i 1).val < 1 := (i 1).isLt
  omega

/-- A vector cast to a column reads, at a row, the vector there. -/
theorem column_apply {α : Type} (v : (⟨1, ![M]⟩ : Shape).Idx → α) (h : (⟨1, ![M]⟩ : Shape).ShapeCasts ⟨2, ![M, 1]⟩)
    (i : (⟨2, ![M, 1]⟩ : Shape).Idx) : shapeCast ⟨2, ![M, 1]⟩ v h i = v (fun a => ⟨(i 0).val, by obtain rfl : a = 0 := Subsingleton.elim _ _; exact (i 0).isLt⟩) := by
  refine shapeCast_apply v h i _ ?_
  rw [Shape.rowMajor_val_one, Shape.rowMajor_val_two]
  have h1 := unit_axis i
  show (i 0).val = (i 0).val * 1 + (i 1).val
  omega

/-- The index over a row's result at a column. -/
theorem lift_row (h : (⟨2, ![M, N]⟩ : Shape).Reduces [1] ⟨1, ![M]⟩) (j : (⟨1, ![M]⟩ : Shape).Idx) (k : Fin N) :
    h.lift j k = ix2 (⟨(j 0).val, (j 0).isLt⟩ : Fin M) k := by
  funext a
  apply Fin.ext
  show h.liftVal j k.val a = _
  unfold Shape.Reduces.liftVal
  match a with
  | ⟨0, _⟩ => rfl
  | ⟨1, _⟩ => rfl

/-- A column spread over a matrix reads the row. -/
theorem spread_apply {α : Type} (v : (⟨2, ![M, 1]⟩ : Shape).Idx → α) (h : (⟨2, ![M, 1]⟩ : Shape).Broadcasts ⟨2, ![M, N]⟩)
    (i : (⟨2, ![M, 1]⟩ : Shape).Idx) (k : Fin N) : broadcastTo ⟨2, ![M, N]⟩ v h (ix2 (rowOf i) k) = v i := by
  refine broadcastTo_apply v h _ i (fun a => ?_)
  match a with
  | ⟨0, _⟩ =>
    show (i 0).val = if M = 1 then 0 else (i 0).val
    split
    · next hM => have h0 : (i 0).val < M := (i 0).isLt; omega
    · rfl
  | ⟨1, _⟩ => exact unit_axis i

/-- A row's count: an integer row sum, kept as a column, of words whose values add up to `n`. -/
theorem row_count (src : IVec ⟨2, ![M, N]⟩ 32) (h : (⟨2, ![M, N]⟩ : Shape).Reduces [1] ⟨1, ![M]⟩) (hacc : (0#32 : BitVec 32) = IKind.add.neutral)
    (hc : (⟨1, ![M]⟩ : Shape).ShapeCasts ⟨2, ![M, 1]⟩) (i : (⟨2, ![M, 1]⟩ : Shape).Idx) (n : ℕ)
    (hs : ∑ k : Fin N, (src (ix2 (rowOf i) k)).toNat = n) (hn : n < 2 ^ 32) :
    shapeCast ⟨2, ![M, 1]⟩ (multiReductionI .add [1] ⟨1, ![M]⟩ src 0#32 h hacc) hc i = BitVec.ofNat 32 n := by
  rw [column_apply]
  have hs' : ∀ j : (⟨1, ![M]⟩ : Shape).Idx, (j 0).val = (i 0).val → ∑ e ∈ Finset.univ.filter (fun e => h.drop e = j), (src e).toNat = n := fun j hj => by
    rw [h.sum_filter_drop_single]
    refine (Finset.sum_congr rfl fun k _ => ?_).trans hs
    have e : h.lift j k = ix2 (rowOf i) k := (lift_row h j k).trans (congrArg (fun a => ix2 a k) (Fin.ext hj))
    exact congrArg (fun e => (src e).toNat) e
  apply BitVec.eq_of_toNat_eq
  rw [WordSum.toNat_multiReductionI_add _ _ _ _ (by rw [hs' _ rfl]; exact hn), hs' _ rfl, BitVec.toNat_ofNat, Nat.mod_eq_of_lt hn]

/-- A row's least value, kept as a column. -/
theorem row_min (src : FVec Ideal ⟨2, ![M, N]⟩ .f32) (acc : BitVec 32) (h : (⟨2, ![M, N]⟩ : Shape).Reduces [1] ⟨1, ![M]⟩) (hφ : FKind.Formats .f32)
    (hacc : acc = FKind.minimumf.neutral .f32 hφ)
    (hc : (⟨1, ![M]⟩ : Shape).ShapeCasts ⟨2, ![M, 1]⟩) (i : (⟨2, ![M, 1]⟩ : Shape).Idx) :
    shapeCast ⟨2, ![M, 1]⟩ (multiReduction .minimumf [1] ⟨1, ![M]⟩ src acc h hφ hacc) hc i
      = (Finset.univ : Finset (Fin N)).fold min (Ideal.ofBits .f32 acc) (fun k => src (ix2 (rowOf i) k)) := by
  rw [column_apply, multiReduction_minimumf_eq_fold, Shape.Reduces.fold_filter_drop_single]
  exact congrArg (fun f => (Finset.univ : Finset (Fin N)).fold min (Ideal.ofBits .f32 acc) f) (funext fun k => congrArg src (lift_row h _ k))

/-- A row's largest value, kept as a column. -/
theorem row_max (src : FVec Ideal ⟨2, ![M, N]⟩ .f32) (acc : BitVec 32) (h : (⟨2, ![M, N]⟩ : Shape).Reduces [1] ⟨1, ![M]⟩) (hφ : FKind.Formats .f32)
    (hacc : acc = FKind.maximumf.neutral .f32 hφ)
    (hc : (⟨1, ![M]⟩ : Shape).ShapeCasts ⟨2, ![M, 1]⟩) (i : (⟨2, ![M, 1]⟩ : Shape).Idx) :
    shapeCast ⟨2, ![M, 1]⟩ (multiReduction .maximumf [1] ⟨1, ![M]⟩ src acc h hφ hacc) hc i
      = (Finset.univ : Finset (Fin N)).fold max (Ideal.ofBits .f32 acc) (fun k => src (ix2 (rowOf i) k)) := by
  rw [column_apply, multiReduction_maximumf_eq_fold, Shape.Reduces.fold_filter_drop_single]
  exact congrArg (fun f => (Finset.univ : Finset (Fin N)).fold max (Ideal.ofBits .f32 acc) f) (funext fun k => congrArg src (lift_row h _ k))

/-! ### The lanes' words and the two selections -/

theorem lane_words : ∀ k : Fin 256, IntOp.shli .vector (BitVec.ofNat 32 k.val) 23#32 = BitVec.ofNat 32 k.val <<< 23
    ∧ IntOp.cmpi .sgt (BitVec.ofNat 32 k.val) 0#32 = BitVec.ofBool (decide (0 < k.val)) := by decide +kernel

theorem bit_and (p q : Bool) : (Scalar.select (IntOp.andi (BitVec.ofBool p) (BitVec.ofBool q)) 1#32 0#32 : BitVec 32).toNat
    = if p = true ∧ q = true then 1 else 0 := by
  cases p <;> cases q <;> decide

theorem sel_expo : ∀ n : Fin 256, (Scalar.select (IntOp.ori (IntOp.cmpi .eq (BitVec.ofNat 32 n.val) 0#32) (IntOp.cmpi .eq (BitVec.ofNat 32 n.val) 255#32)) 0#32
        (IntOp.subi (BitVec.ofNat 32 n.val) 126#32) : BitVec 32) = expo (BitVec.ofNat 32 n.val) := by decide +kernel

theorem sel_or {α : Type} (p q : Bool) (a b : α) : Scalar.select (IntOp.ori (BitVec.ofBool p) (BitVec.ofBool q)) a b = if p = true ∨ q = true then a else b := by
  cases p <;> cases q <;> rfl

theorem sel_one {α : Type} (p : Bool) (a b : α) : Scalar.select (BitVec.ofBool p) a b = if p = true then a else b := by
  cases p <;> rfl

theorem abs_nonneg' (v : EReal) : 0 ≤ max v (-v) := by
  rcases le_total 0 v with h | h
  · exact le_max_of_le_left h
  · exact le_max_of_le_right (EReal.neg_nonneg.2 h)

theorem abs_of_nonneg' {v : EReal} (h : 0 ≤ v) : max v (-v) = v :=
  max_eq_left ((EReal.neg_le_neg_iff.2 h).trans (by simpa using h))

theorem lane_int : ∀ k : Fin 254, (BitVec.ofNat 32 k.val).toInt = (k.val : ℤ) := by decide +kernel

theorem ofBits_126 : Ideal.ofBits .f32 0x42FC0000#32 = ((126 : ℝ) : EReal) := by
  simp [Ideal.ofBits, Ideal.ieee, -EReal.coe_mul]; norm_num

theorem ratio_const_nonneg : (0 : EReal) ≤ Ideal.ofBits .f32 0x3B124925#32 := by
  simp [Ideal.ofBits, Ideal.ieee, -EReal.coe_mul]

/-- A lane of the reference's table of powers. -/
theorem table (k : Fin 254) : Ideal.exp2 ((((BitVec.ofNat 32 k.val).toInt : ℝ) : EReal) - Ideal.ofBits .f32 0x42FC0000#32) = pow (k.val + 1) := by
  rw [lane_int, ofBits_126, ← EReal.coe_sub, Ideal.exp2_coe, pow_of (by omega) (by omega)]
  congr 1
  rw [← Real.rpow_intCast, Real.rpow_eq_pow]
  congr 1
  push_cast
  ring

/-- The kernel's lanes that a value reaches: one there and zero elsewhere. -/
theorem reached_at (iota : BitVec 32) (k : Fin 256) (hi : iota = BitVec.ofNat 32 k.val) {r : EReal} (hr : 0 ≤ r) :
    (Scalar.select (IntOp.andi (IntOp.cmpi .sgt iota 0#32) (Ideal.cmp .ole (Ideal.ofBits .f32 (IntOp.shli .vector iota 23#32)) (max r (-r)))) 1#32 0#32 : BitVec 32).toNat
      = if 0 < k.val ∧ pow k.val ≤ r then 1 else 0 := by
  rw [hi, (lane_words k).1, (lane_words k).2, abs_of_nonneg' hr]
  refine (bit_and (decide (0 < k.val)) (decide (pow k.val ≤ r))).trans ?_
  simp only [decide_eq_true_eq]

/-- The reference's lanes: the power where it is above the value, and +∞ elsewhere. -/
theorem above_at (iota : BitVec 32) (k : Fin 254) (hi : iota = BitVec.ofNat 32 k.val) (r : EReal) :
    (Scalar.select (Ideal.cmp .ogt (Ideal.exp2 (((iota.toInt : ℝ) : EReal) - Ideal.ofBits .f32 0x42FC0000#32)) r)
      (Ideal.exp2 (((iota.toInt : ℝ) : EReal) - Ideal.ofBits .f32 0x42FC0000#32)) (Ideal.ofBits .f32 0x7F800000#32) : EReal)
      = if r < pow (k.val + 1) then pow (k.val + 1) else ⊤ := by
  rw [hi, table]
  refine (sel_one (decide (r < pow (k.val + 1))) _ _).trans ?_
  rw [show Ideal.ofBits .f32 0x7F800000#32 = pow 255 from rfl, pow_255]
  simp only [decide_eq_true_eq]

end Cert.Quant

end
-- ==== Proof.Product.lean ====
/- The product of the codes and the weights, scaled and biased, read at an index; a block of its columns is the same
   expression over the block of the weights' columns. -/
module

public import proofs.«01_k».proof.Proof.Rows
public import Idealize.ShloMosaic.Lib.MatmulPlain

@[expose] public section

noncomputable section

namespace Cert.Quant

open Idealize.ShloMosaic Idealize.ShloMosaic.ValueIdx

variable {M K N N' : ℕ}

/-- A row spread over a matrix reads the column. -/
theorem spread_row_apply {α : Type} (v : (⟨2, ![1, N]⟩ : Shape).Idx → α) (h : (⟨2, ![1, N]⟩ : Shape).Broadcasts ⟨2, ![M, N]⟩)
    (r : Fin M) (c : Fin N) : broadcastTo ⟨2, ![M, N]⟩ v h (ix2 r c) = v (ix2 (0 : Fin 1) c) := by
  refine broadcastTo_apply v h _ _ (fun a => ?_)
  match a with
  | ⟨0, _⟩ => show 0 = if (1 : ℕ) = 1 then 0 else _; rw [if_pos rfl]
  | ⟨1, _⟩ =>
    show c.val = if N = 1 then 0 else c.val
    split
    · next hN => have := c.isLt; omega
    · rfl

/-- The product of codes and weights, times the row's scale, times the column's scale, plus the column's bias. -/
def dequant (q : FVec Ideal ⟨2, ![M, K]⟩ .fp8e4m3) (w : FVec Ideal ⟨2, ![K, N]⟩ .fp8e4m3) (s : FVec Ideal ⟨2, ![M, 1]⟩ .f32)
    (ws b : FVec Ideal ⟨2, ![1, N]⟩ .f32) (hs : (⟨2, ![M, 1]⟩ : Shape).Broadcasts ⟨2, ![M, N]⟩)
    (hw : (⟨2, ![1, N]⟩ : Shape).Broadcasts ⟨2, ![M, N]⟩) : FVec Ideal ⟨2, ![M, N]⟩ .f32 :=
  addf (mulf (mulf (matmul (DotDims.plain M K N) none q w (constant ⟨2, ![M, N]⟩ .f32 0x00000000#32)) (broadcastTo ⟨2, ![M, N]⟩ s hs))
    (broadcastTo ⟨2, ![M, N]⟩ ws hw)) (broadcastTo ⟨2, ![M, N]⟩ b hw)

/-- At an index it is the sum over the contracted position, scaled and biased. -/
theorem dequant_apply (q : FVec Ideal ⟨2, ![M, K]⟩ .fp8e4m3) (w : FVec Ideal ⟨2, ![K, N]⟩ .fp8e4m3) (s : FVec Ideal ⟨2, ![M, 1]⟩ .f32)
    (ws b : FVec Ideal ⟨2, ![1, N]⟩ .f32) (hs : (⟨2, ![M, 1]⟩ : Shape).Broadcasts ⟨2, ![M, N]⟩)
    (hw : (⟨2, ![1, N]⟩ : Shape).Broadcasts ⟨2, ![M, N]⟩) (r : Fin M) (c : Fin N) :
    dequant q w s ws b hs hw (ix2 r c)
      = ((0 + ∑ k : Fin K, q (ix2 r k) * w (ix2 k c)) * s (ix2 r (0 : Fin 1)) * ws (ix2 (0 : Fin 1) c) + b (ix2 (0 : Fin 1) c) : EReal) := by
  have e1 : (matmul (DotDims.plain M K N) none q w (constant ⟨2, ![M, N]⟩ .f32 0x00000000#32)) (ix2 r c)
      = (0 + ∑ k : Fin K, q (ix2 r k) * w (ix2 k c) : EReal) := by
    refine (Ideal.matmul_plain_apply none q w _ r c).trans ?_
    exact congrArg (fun z : EReal => z + ∑ k : Fin K, q (ix2 r k) * w (ix2 k c)) Ideal.ofBits_zero_f32
  have e2 : broadcastTo ⟨2, ![M, N]⟩ s hs (ix2 r c) = s (ix2 r (0 : Fin 1)) := spread_apply s hs (ix2 r (0 : Fin 1)) c
  have e3 := spread_row_apply ws hw r c
  have e4 := spread_row_apply b hw r c
  show ((matmul (DotDims.plain M K N) none q w (constant ⟨2, ![M, N]⟩ .f32 0x00000000#32)) (ix2 r c) * broadcastTo ⟨2, ![M, N]⟩ s hs (ix2 r c)
    * broadcastTo ⟨2, ![M, N]⟩ ws hw (ix2 r c) + broadcastTo ⟨2, ![M, N]⟩ b hw (ix2 r c) : EReal) = _
  rw [e1, e2, e3, e4]

/-- Casts of its operands to their own shapes change nothing. -/
theorem dequant_cast (q : FVec Ideal ⟨2, ![M, K]⟩ .fp8e4m3) (w : FVec Ideal ⟨2, ![K, N]⟩ .fp8e4m3) (s : FVec Ideal ⟨2, ![M, 1]⟩ .f32)
    (ws b : FVec Ideal ⟨2, ![1, N]⟩ .f32) (hs : (⟨2, ![M, 1]⟩ : Shape).Broadcasts ⟨2, ![M, N]⟩)
    (hw : (⟨2, ![1, N]⟩ : Shape).Broadcasts ⟨2, ![M, N]⟩) (h1 : (⟨2, ![M, K]⟩ : Shape).ShapeCasts ⟨2, ![M, K]⟩)
    (h2 : (⟨2, ![M, 1]⟩ : Shape).ShapeCasts ⟨2, ![M, 1]⟩) (h3 h4 : (⟨2, ![1, N]⟩ : Shape).ShapeCasts ⟨2, ![1, N]⟩) :
    dequant (shapeCast ⟨2, ![M, K]⟩ q h1) w (shapeCast ⟨2, ![M, 1]⟩ s h2) (shapeCast ⟨2, ![1, N]⟩ ws h3) (shapeCast ⟨2, ![1, N]⟩ b h4) hs hw
      = dequant q w s ws b hs hw := by
  simp only [shapeCast_self]

/-- The same casts, the codes and the scale uncast. -/
theorem dequant_cast' (q : FVec Ideal ⟨2, ![M, K]⟩ .fp8e4m3) (w : FVec Ideal ⟨2, ![K, N]⟩ .fp8e4m3) (s : FVec Ideal ⟨2, ![M, 1]⟩ .f32)
    (ws b : FVec Ideal ⟨2, ![1, N]⟩ .f32) (hs : (⟨2, ![M, 1]⟩ : Shape).Broadcasts ⟨2, ![M, N]⟩)
    (hw : (⟨2, ![1, N]⟩ : Shape).Broadcasts ⟨2, ![M, N]⟩) (h3 h4 : (⟨2, ![1, N]⟩ : Shape).ShapeCasts ⟨2, ![1, N]⟩) :
    dequant q w s (shapeCast ⟨2, ![1, N]⟩ ws h3) (shapeCast ⟨2, ![1, N]⟩ b h4) hs hw = dequant q w s ws b hs hw := by
  simp only [shapeCast_self]

/-- A column of a block is the column of the whole it stands at. -/
theorem dequant_column (q : FVec Ideal ⟨2, ![M, K]⟩ .fp8e4m3) (s : FVec Ideal ⟨2, ![M, 1]⟩ .f32)
    (w : FVec Ideal ⟨2, ![K, N]⟩ .fp8e4m3) (ws b : FVec Ideal ⟨2, ![1, N]⟩ .f32)
    (w' : FVec Ideal ⟨2, ![K, N']⟩ .fp8e4m3) (ws' b' : FVec Ideal ⟨2, ![1, N']⟩ .f32)
    (hs : (⟨2, ![M, 1]⟩ : Shape).Broadcasts ⟨2, ![M, N]⟩) (hw : (⟨2, ![1, N]⟩ : Shape).Broadcasts ⟨2, ![M, N]⟩)
    (hs' : (⟨2, ![M, 1]⟩ : Shape).Broadcasts ⟨2, ![M, N']⟩) (hw' : (⟨2, ![1, N']⟩ : Shape).Broadcasts ⟨2, ![M, N']⟩)
    (r : Fin M) (c : Fin N) (c' : Fin N') (hq : ∀ k, w' (ix2 k c') = w (ix2 k c))
    (hws : ws' (ix2 (0 : Fin 1) c') = ws (ix2 (0 : Fin 1) c)) (hb : b' (ix2 (0 : Fin 1) c') = b (ix2 (0 : Fin 1) c)) :
    dequant q w' s ws' b' hs' hw' (ix2 r c') = dequant q w s ws b hs hw (ix2 r c) := by
  rw [dequant_apply, dequant_apply, hws, hb]
  simp only [hq]

end Cert.Quant

end
-- ==== Proof.KernelValue.lean ====
/- What the idealized kernel's run leaves in its three result arrays. -/
module

public import proofs.«01_k».proof.Proof.Run
public import proofs.«01_k».proof.Proof.Product
public import Idealize.ShloMosaic.Lib.Pipeline.ValueKit

@[expose] public section

set_option maxRecDepth 16384

noncomputable section

namespace Cert.KernelIdeal.Run

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

section Any

variable {F : FTy → Type} [FloatOps F]
variable (m : (ℓ : Loc nD τ sig) → Buf (Elt F) ℓ) (ρ : Dev nD → PrngReg)

/-- The codes' one block is the whole array, at the origin. -/
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])

/-- The codes' array ends holding the codes. -/
theorem final6 (c : Dev nD) : (dats m 0 c).arrAt 6 cfg0.N = codes m c := by
  refine (dats m 0 c).arrAt_eq_of_covers 6 (codes m c) (by decide +kernel) fun t hf y => ?_
  blk_simp
  rw [after0_6]
  blk_ext [index6]

/-- The scale's array ends holding the scale. -/
theorem final7 (c : Dev nD) : (dats m 0 c).arrAt 7 cfg0.N = scale m c := by
  refine (dats m 0 c).arrAt_eq_of_covers 7 (scale m c) (by decide +kernel) fun t hf y => ?_
  blk_simp
  rw [after0_7]
  blk_ext [index7]

/-- The blocks the quantiser reads are the whole arrays. -/
theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])

theorem xBlk_eq (c : Dev nD) : xBlk m c = V m c main_v0 := by
  funext y
  unfold xBlk
  blk_ext [iblk, index0]

theorem sBlk_eq (c : Dev nD) : sBlk m c = V m c main_v1 := by
  funext y
  unfold sBlk
  blk_ext [iblk, index1]

/-- The column blocks. -/
theorem index2 : ∀ t : Fin cfg0.N, win0_2.index t = ![0, t.val] := (by decide +kernel : ∀ t : Fin grid0.N, win0_2.index t = ![0, t.val])
theorem index3 : ∀ t : Fin cfg0.N, win0_3.index t = ![0, t.val] := (by decide +kernel : ∀ t : Fin grid0.N, win0_3.index t = ![0, t.val])
theorem index4 : ∀ t : Fin cfg0.N, win0_4.index t = ![0, t.val] := (by decide +kernel : ∀ t : Fin grid0.N, win0_4.index t = ![0, t.val])
theorem index5 : ∀ t : Fin cfg0.N, win0_5.index t = ![0, t.val] := (by decide +kernel : ∀ t : Fin grid0.N, win0_5.index t = ![0, t.val])

end Any

variable (m : (ℓ : Loc nD τ sig) → Buf (Elt Ideal) ℓ) (ρ : Dev nD → PrngReg)

open Cert.Quant (dequant dequant_cast dequant_column)

theorem broadcasts_row : (⟨2, ![1, 8192]⟩ : Shape).Broadcasts ⟨2, ![128, 8192]⟩ := broadcasts_S1x8192_S128x8192
theorem broadcasts_column : (⟨2, ![128, 1]⟩ : Shape).Broadcasts ⟨2, ![128, 8192]⟩ := broadcasts_S128x1_S128x8192

/-- The whole of `y`: the codes times the whole of the weights, scaled and biased. -/
def yAll (c : Dev nD) : Vec Ideal S128x8192 .f32 :=
  dequant (M := 128) (K := 8192) (N := 8192) (codes m c) (V m c main_arg2) (scale m c) (V m c main_v2) (V m c main_v3)
    broadcasts_column broadcasts_row

/-- The block of `y` a point stores is the same expression over the point's blocks. -/
theorem yBlk_dequant (c : Dev nD) (t : Fin cfg0.N) :
    yBlk m c t = dequant (M := 128) (K := 8192) (N := 512) (codes m c) (iblk m c 2 t) (scale m c) (iblk m c 3 t) (iblk m c 4 t)
      broadcasts_S128x1_S128x512 broadcasts_S1x512_S128x512 := by
  refine Eq.trans ?_ (dequant_cast (M := 128) (K := 8192) (N := 512) (codes m c) (iblk m c 2 t) (scale m c) (iblk m c 3 t) (iblk m c 4 t)
    broadcasts_S128x1_S128x512 broadcasts_S1x512_S128x512 shapeCasts_S128x8192_S128x8192 shapeCasts_S128x1_S128x1
    shapeCasts_S1x512_S1x512 shapeCasts_S1x512_S1x512)
  rfl

/-- A column of a point's block of `y` is the column of the whole of `y` it stands at. -/
theorem yBlk_apply (c : Dev nD) (t : Fin cfg0.N) (r : Fin 128) (k : Fin 512) (k' : Fin 8192) (hk : k'.val = t.val * 512 + k.val) :
    yBlk m c t (ValueIdx.ix2 r k) = yAll m c (ValueIdx.ix2 r k') := by
  rw [yBlk_dequant]
  unfold yAll
  have h2 : ∀ i : Fin 8192, (iblk m c 2 t : Vec Ideal S8192x512 .fp8e4m3) (ValueIdx.ix2 i k) = V m c main_arg2 (ValueIdx.ix2 i k') := fun i => by
    blk_simp [iblk]
    refine congrArg (V m c main_arg2) (funext fun a => Fin.ext ?_)
    match a with
    | ⟨0, _⟩ => blk_simp [index2]
    | ⟨1, _⟩ => blk_simp [index2]; exact hk.symm
  have h3 : (iblk m c 3 t : Vec Ideal S1x512 .f32) (ValueIdx.ix2 (0 : Fin 1) k) = V m c main_v2 (ValueIdx.ix2 (0 : Fin 1) k') := by
    blk_simp [iblk]
    refine congrArg (V m c main_v2) (funext fun a => Fin.ext ?_)
    match a with
    | ⟨0, _⟩ => blk_simp [index3]
    | ⟨1, _⟩ => blk_simp [index3]; exact hk.symm
  have h4 : (iblk m c 4 t : Vec Ideal S1x512 .f32) (ValueIdx.ix2 (0 : Fin 1) k) = V m c main_v3 (ValueIdx.ix2 (0 : Fin 1) k') := by
    blk_simp [iblk]
    refine congrArg (V m c main_v3) (funext fun a => Fin.ext ?_)
    match a with
    | ⟨0, _⟩ => blk_simp [index4]
    | ⟨1, _⟩ => blk_simp [index4]; exact hk.symm
  exact dequant_column (M := 128) (K := 8192) (N := 8192) (N' := 512) (codes m c) (scale m c) (V m c main_arg2) (V m c main_v2)
    (V m c main_v3) (iblk m c 2 t) (iblk m c 3 t) (iblk m c 4 t) _ _ _ _ r k' k h2 h3 h4

/-- The array of `y` ends holding the whole of `y`. -/
theorem final5 (c : Dev nD) : (dats m 0 c).arrAt 5 cfg0.N = yAll m c := by
  refine (dats m 0 c).arrAt_eq_of_covers 5 (yAll m c) (by decide +kernel) fun t hf y => ?_
  blk_simp
  rw [after0_5]
  have hN : t.val < 16 := lt_of_lt_of_eq t.isLt (show cfg0.N = 16 from N_0)
  have h0 : (y 0).val < 128 := (y 0).isLt
  have h1 : (y 1).val < 512 := (y 1).isLt
  have hy : (y : S128x512.Idx) = ValueIdx.ix2 (⟨(y 0).val, h0⟩ : Fin 128) (⟨(y 1).val, h1⟩ : Fin 512) := ValueIdx.eq_ix2 y
  have he : ((win0_5.blk t).view.emb y : S128x8192.Idx)
      = ValueIdx.ix2 (⟨(y 0).val, h0⟩ : Fin 128) (⟨t.val * 512 + (y 1).val, by omega⟩ : Fin 8192) := by
    funext a; apply Fin.ext
    match a with
    | ⟨0, _⟩ => blk_simp [index5]; rfl
    | ⟨1, _⟩ => blk_simp [index5]; rfl
  exact (congrArg (yBlk m c t) hy).trans ((yBlk_apply m c t _ _ _ rfl).trans (congrArg (yAll m c) he.symm))

/-- The run, its results named. -/
theorem run_values : θ_run defs (onTc (τ := τ) (main (F := Ideal))) ⟨m, fun _ => 0, ρ⟩ (fun r => ∀ c : Dev nD,
      r.2.mem ((c.tc : Thread nD τ).loc main_v4_0) = yAll m c
      ∧ r.2.mem ((c.tc : Thread nD τ).loc main_v4_1) = codes m c
      ∧ r.2.mem ((c.tc : Thread nD τ).loc main_v4_2) = scale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c),
    ((h.1 c).1 7).trans (final7 m c), h.2 c⟩) (θ_run_and (run_main m ρ) (unchanged m ρ))

/-! ## The arrays the region finds, from the arguments -/

theorem V_main_v0 (c : Dev nD) : V m c main_v0 = shapeCast S128x8192 (m ((c.tc : Thread nD τ).loc main_arg0)) shapeCasts_S128x1x8192_S128x8192 := rfl
theorem V_main_v1 (c : Dev nD) : V m c main_v1 = shapeCast S1x8192 (m ((c.tc : Thread nD τ).loc main_arg1)) shapeCasts_S8192_S1x8192 := rfl
theorem V_main_v2 (c : Dev nD) : V m c main_v2 = shapeCast S1x8192 (m ((c.tc : Thread nD τ).loc main_arg3)) shapeCasts_S8192_S1x8192 := rfl
theorem V_main_v3 (c : Dev nD) : V m c main_v3 = shapeCast S1x8192 (m ((c.tc : Thread nD τ).loc main_arg4)) shapeCasts_S8192_S1x8192 := rfl

end Cert.KernelIdeal.Run

end
-- ==== Proof.ReferenceValue.lean ====
/- What the idealized reference's run leaves in its three result arrays: one point, whole arrays. -/
module

public import proofs.«01_k».proof.Proof.Gen.ReferenceIdeal.Frame
public import proofs.«01_k».proof.Proof.Gen.ReferenceIdeal.Value
public import proofs.«01_k».proof.Proof.Product
public import Idealize.ShloMosaic.Lib.Pipeline.ValueKit

@[expose] public section

set_option maxRecDepth 16384

noncomputable section

namespace Cert.ReferenceIdeal.Whole

open Idealize.ShloMosaic Idealize.ShloMosaic.TcCoe Idealize.ShloMosaic.ValueIdx
open Idealize.SL Idealize.SL.Sem
open Idealize.ShloMosaic.Pipeline (Dat)
open Cert.ReferenceIdeal Cert.ReferenceIdeal.Gen

section Any

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])

/-- Every block is its whole array. -/
theorem blk0 (c : Dev nD) (t : Fin cfg0.N) : (iblk m c 0 t : Vec F S128x8192 .f32) = V m c main_v0 := by
  funext y; blk_ext [iblk, index0]
theorem blk1 (c : Dev nD) (t : Fin cfg0.N) : (iblk m c 1 t : Vec F S1x8192 .f32) = V m c main_v1 := by
  funext y; blk_ext [iblk, index1]
theorem blk2 (c : Dev nD) (t : Fin cfg0.N) : (iblk m c 2 t : Vec F S8192x8192 .fp8e4m3) = V m c main_arg2 := by
  funext y; blk_ext [iblk, index2]
theorem blk3 (c : Dev nD) (t : Fin cfg0.N) : (iblk m c 3 t : Vec F S1x8192 .f32) = V m c main_v2 := by
  funext y; blk_ext [iblk, index3]
theorem blk4 (c : Dev nD) (t : Fin cfg0.N) : (iblk m c 4 t : Vec F S1x8192 .f32) = V m c main_v3 := by
  funext y; blk_ext [iblk, index4]

/-- The scale, the codes and `y` of the reference, from the arrays its region finds. -/
def scale (c : Dev nD) : Vec F S128x1 .f32 := k0_pay3 (V m c main_v0) (V m c main_v1)
def codes (c : Dev nD) : Vec F S128x8192 .fp8e4m3 := k0_pay4 (V m c main_v0) (V m c main_v1)
def y (c : Dev nD) : Vec F S128x8192 .f32 :=
  k0_pay1 (scale m c) (codes m c) (V m c main_arg2) (V m c main_v2) (V m c main_v3)

/-- The loads and the one store of each output go through the whole buffer. -/
theorem out5_eq (x0 : Vec F S128x8192 .f32) (x1 : Vec F S1x8192 .f32) (x2 : Vec F S8192x8192 .fp8e4m3) (x3 : Vec F S1x8192 .f32) (x4 : Vec F S1x8192 .f32) :
    out0_5 x0 x1 x2 x3 x4 = k0_pay1 (k0_pay3 x0 x1) (k0_pay4 x0 x1) x2 x3 x4 := by
  unfold out0_5 k0_pay5 k0_pay6
  rw [View.canon_unit_zero origin, View.ld_unit_zero origin, View.ld_unit_zero origin, View.ld_unit_zero origin, View.ld_unit_zero origin, View.ld_unit_zero origin]
theorem out6_eq (x0 : Vec F S128x8192 .f32) (x1 : Vec F S1x8192 .f32) (x2 : Vec F S8192x8192 .fp8e4m3) (x3 : Vec F S1x8192 .f32) (x4 : Vec F S1x8192 .f32) :
    out0_6 x0 x1 x2 x3 x4 = k0_pay4 x0 x1 := by
  unfold out0_6 k0_pay6
  rw [View.canon_unit_zero origin, View.ld_unit_zero origin, View.ld_unit_zero origin]
theorem out7_eq (x0 : Vec F S128x8192 .f32) (x1 : Vec F S1x8192 .f32) (x2 : Vec F S8192x8192 .fp8e4m3) (x3 : Vec F S1x8192 .f32) (x4 : Vec F S1x8192 .f32) :
    out0_7 x0 x1 x2 x3 x4 = k0_pay3 x0 x1 := by
  unfold out0_7 k0_pay5
  rw [View.canon_unit_zero origin, View.ld_unit_zero origin, View.ld_unit_zero origin]

theorem final5 (c : Dev nD) : (dats m 0 c).arrAt 5 cfg0.N = y m c := by
  refine (dats m 0 c).arrAt_eq_of_covers 5 (y m c) (by decide +kernel) fun t hf i => ?_
  blk_simp
  rw [after0_5, out5_eq, blk0, blk1, blk2, blk3, blk4]
  show y m c i = _
  blk_ext [index5]
theorem final6 (c : Dev nD) : (dats m 0 c).arrAt 6 cfg0.N = codes m c := by
  refine (dats m 0 c).arrAt_eq_of_covers 6 (codes m c) (by decide +kernel) fun t hf i => ?_
  blk_simp
  rw [after0_6, out6_eq, blk0, blk1]
  show codes m c i = _
  blk_ext [index6]
theorem final7 (c : Dev nD) : (dats m 0 c).arrAt 7 cfg0.N = scale m c := by
  refine (dats m 0 c).arrAt_eq_of_covers 7 (scale m c) (by decide +kernel) fun t hf i => ?_
  blk_simp
  rw [after0_7, out7_eq, blk0, blk1]
  show scale m c i = _
  blk_ext [index7]

/-- The run, its results named. -/
theorem run_values : θ_run defs (onTc (τ := τ) (main (F := F))) ⟨m, fun _ => 0, ρ⟩ (fun r => ∀ c : Dev nD,
      r.2.mem ((c.tc : Thread nD τ).loc main_v4_0) = y m c
      ∧ r.2.mem ((c.tc : Thread nD τ).loc main_v4_1) = codes m c
      ∧ r.2.mem ((c.tc : Thread nD τ).loc main_v4_2) = scale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final5 m c), (h c).2.1.trans (final6 m c),
    (h c).2.2.1.trans (final7 m c), (h c).2.2.2⟩) (Cert.ReferenceIdeal.Value.run_blocks m ρ)

/-! ## The arrays the region finds, from the arguments -/

theorem V_main_v0 (c : Dev nD) : V m c main_v0 = shapeCast S128x8192 (m ((c.tc : Thread nD τ).loc main_arg0)) shapeCasts_S128x1x8192_S128x8192 := rfl
theorem V_main_v1 (c : Dev nD) : V m c main_v1 = shapeCast S1x8192 (m ((c.tc : Thread nD τ).loc main_arg1)) shapeCasts_S8192_S1x8192 := rfl
theorem V_main_v2 (c : Dev nD) : V m c main_v2 = shapeCast S1x8192 (m ((c.tc : Thread nD τ).loc main_arg3)) shapeCasts_S8192_S1x8192 := rfl
theorem V_main_v3 (c : Dev nD) : V m c main_v3 = shapeCast S1x8192 (m ((c.tc : Thread nD τ).loc main_arg4)) shapeCasts_S8192_S1x8192 := rfl

end Any

end Cert.ReferenceIdeal.Whole

end
-- ==== Proof.Quantise.lean ====
/- The quantiser of the kernel and of the reference, at the extended reals. The kernel counts the powers of two that the row's
   value reaches and makes the scale and its inverse out of that count's bits; the reference takes the least power above the
   value and divides. Both are read here at the value's level, the number of powers it reaches, where they are one power. -/
module

public import proofs.«01_k».proof.Proof.Body
public import proofs.«01_k».proof.Proof.Rows
public import proofs.«01_k».proof.Proof.Gen.ReferenceIdeal
public import proofs.«01_k».proof.Proof.Gen.ReferenceIdeal.Skeleton

@[expose] public section

noncomputable section

namespace Cert.Quant

open Idealize.ShloMosaic Idealize.ShloMosaic.ValueIdx
open Cert.KernelIdeal Cert.KernelIdeal.Gen Cert.KernelIdeal.Run

/-- The largest magnitude of each row. -/
def amax (xs : FVec Ideal S128x8192 .f32) : FVec Ideal S128x1 .f32 :=
  shapeCast S128x1 (multiReduction .maximumf [1] S128 (absf xs) 0xFF800000#32 reduces_S128x8192_S128 (.inl rfl) rfl) shapeCasts_S128_S128x1

/-- The largest magnitude of each row over the largest code, the value whose power of two is the scale. -/
def ratio (a : FVec Ideal S128x1 .f32) : FVec Ideal S128x1 .f32 := mulf a (broadcast S128x1 (Scalar.ofBits .f32 0x3B124925#32))

/-- One in each lane whose power of two the row's value reaches. -/
def reached (r : FVec Ideal S128x1 .f32) : IVec S128x256 32 :=
  select (andi (cmpi .sgt (iota .tc S128x256 32 [1] iota_S128x256_d1_w32) (broadcast S128x256 0#32))
      (cmpf .ole (bitcastToFloat .f32 (shli (iota .tc S128x256 32 [1] iota_S128x256_d1_w32) (broadcast S128x256 23#32)))
        (broadcastTo S128x256 (absf r) broadcasts_S128x1_S128x256)))
    (broadcast S128x256 1#32) (broadcast S128x256 0#32)

/-- The count of those lanes in each row. -/
def count (r : FVec Ideal S128x1 .f32) : IVec S128x1 32 :=
  shapeCast S128x1 (multiReductionI .add [1] S128 (reached r) 0#32 reduces_S128x256_S128 rfl) shapeCasts_S128_S128x1

/-- The kernel's exponent of each row, from the row's largest magnitude and the count. -/
def expoVec (a : FVec Ideal S128x1 .f32) (n : IVec S128x1 32) : IVec S128x1 32 :=
  select (cmpf .oeq a (broadcast S128x1 (Scalar.ofBits .f32 0x00000000#32))) (broadcast S128x1 0#32)
    (select (ori (cmpi .eq n (broadcast S128x1 0#32)) (cmpi .eq n (broadcast S128x1 255#32))) (broadcast S128x1 0#32)
      (subi n (broadcast S128x1 126#32)))

/-- A power of two by its exponent, the exponent clipped to the field. -/
def powVec (e : IVec S128x1 32) : FVec Ideal S128x1 .f32 :=
  bitcastToFloat .f32 (shli (minsi (broadcast S128x1 255#32) (maxsi (broadcast S128x1 0#32) (addi e (broadcast S128x1 127#32)))) (broadcast S128x1 23#32))

/-- The powers of the reference's table. -/
def powers : FVec Ideal ⟨2, ![128, 254]⟩ .f32 :=
  exp2 (subf (sitofp .f32 (iota .tc ⟨2, ![128, 254]⟩ 32 [1] Cert.ReferenceIdeal.Gen.iota_S128x254_d1_w32))
    (broadcast ⟨2, ![128, 254]⟩ (Scalar.ofBits .f32 0x42FC0000#32)))

/-- The powers above the row's value, +∞ in the other lanes. -/
def aboves (r : FVec Ideal S128x1 .f32) : FVec Ideal ⟨2, ![128, 254]⟩ .f32 :=
  select (cmpf .ogt powers (broadcastTo ⟨2, ![128, 254]⟩ r Cert.ReferenceIdeal.Gen.broadcasts_S128x1_S128x254)) powers
    (broadcast ⟨2, ![128, 254]⟩ (Scalar.ofBits .f32 0x7F800000#32))

/-- The least of them in each row. -/
def least (r : FVec Ideal S128x1 .f32) : FVec Ideal S128x1 .f32 :=
  shapeCast S128x1 (multiReduction .minimumf [1] S128 (aboves r) 0x7F800000#32 Cert.ReferenceIdeal.Gen.reduces_S128x254_S128 (.inl rfl) rfl)
    shapeCasts_S128_S128x1

/-- The reference's scale of each row, from the row's value and the least power above it. -/
def scaleVec (r l : FVec Ideal S128x1 .f32) : FVec Ideal S128x1 .f32 :=
  select (ori (cmpf .olt r (broadcast S128x1 (Scalar.ofBits .f32 0x00800000#32))) (cmpf .oeq r (broadcast S128x1 (Scalar.ofBits .f32 0x7F800000#32))))
    (broadcast S128x1 (Scalar.ofBits .f32 0x3F800000#32)) l

/-- The reference's multiplier of each row. -/
def refInv (c : FVec Ideal S128x1 .f32) : FVec Ideal S128x1 .f32 :=
  select (cmpf .olt c (broadcast S128x1 (Scalar.ofBits .f32 0x7F000000#32))) (divf (broadcast S128x1 (Scalar.ofBits .f32 0x3F800000#32)) c)
    (broadcast S128x1 (Scalar.ofBits .f32 0x00000000#32))

/-- The codes as both programs make them of the smoothed rows and the multipliers. -/
def code (xs : FVec Ideal S128x8192 .f32) (g : FVec Ideal S128x1 .f32) : FVec Ideal S128x8192 .fp8e4m3 :=
  truncf .fp8e4m3 (minimumf (broadcast S128x8192 (Scalar.ofBits .f32 0x43E00000#32)) (maximumf (broadcast S128x8192 (Scalar.ofBits .f32 0xC3E00000#32))
    (mulf xs (broadcastTo S128x8192 g broadcasts_S128x1_S128x8192)))) bitsLt_fp8e4m3_f32

/-! ## The two programs' values are these -/

variable (x : Vec Ideal S128x8192 .f32) (s : Vec Ideal S1x8192 .f32)

theorem kernel_expo : k0_pay5 x s = expoVec (amax (k0_pay4 x s)) (count (ratio (amax (k0_pay4 x s)))) := rfl
theorem kernel_scale : scaleOf x s = powVec (k0_pay5 x s) := rfl
theorem kernel_codes : codesOf x s = code (k0_pay4 x s) (powVec (subi (broadcast S128x1 0#32) (k0_pay5 x s))) := rfl
theorem reference_rows : Cert.ReferenceIdeal.Gen.k0_pay2 (F := Ideal) x s = k0_pay4 x s := rfl
theorem reference_scale : Cert.ReferenceIdeal.Gen.k0_pay3 (F := Ideal) x s
    = scaleVec (ratio (amax (k0_pay4 x s))) (least (ratio (amax (k0_pay4 x s)))) := rfl
theorem reference_codes : Cert.ReferenceIdeal.Gen.k0_pay4 (F := Ideal) x s
    = code (k0_pay4 x s) (refInv (Cert.ReferenceIdeal.Gen.k0_pay3 (F := Ideal) x s)) := rfl

/-! ## Read at a row -/

theorem amax_nonneg (xs : FVec Ideal S128x8192 .f32) (i : S128x1.Idx) : 0 ≤ amax xs i := by
  unfold amax
  refine le_of_le_of_eq ?_ (row_max (M := 128) (N := 8192) (absf xs) _ _ _ _ _ i).symm
  exact (Finset.le_fold_max _).2 (Or.inr ⟨(⟨0, by decide⟩ : Fin 8192), Finset.mem_univ _, abs_nonneg' _⟩)

theorem ratio_nonneg {a : FVec Ideal S128x1 .f32} {i : S128x1.Idx} (h : 0 ≤ a i) : 0 ≤ ratio a i :=
  mul_nonneg h ratio_const_nonneg

theorem count_apply (r : FVec Ideal S128x1 .f32) (i : S128x1.Idx) (hr : 0 ≤ r i) {n : ℕ} (h : Level (r i) n) :
    count r i = BitVec.ofNat 32 n := by
  have := h.1
  refine row_count (M := 128) (N := 256) (reached r) _ _ _ i n ?_ (by omega)
  refine (Finset.sum_congr rfl fun k _ => ?_).trans ((Finset.card_filter (fun k : Fin 256 => 0 < k.val ∧ pow k.val ≤ r i) Finset.univ).symm.trans (card_level h))
  have hi : iota .tc S128x256 32 [1] iota_S128x256_d1_w32 (ix2 (rowOf i) k) = BitVec.ofNat 32 k.val := iota_single_apply _ _ _ _ _ _
  have hb : broadcastTo S128x256 (absf r) broadcasts_S128x1_S128x256 (ix2 (rowOf i) k) = max (r i) (-(r i)) :=
    spread_apply (absf r) broadcasts_S128x1_S128x256 i k
  refine Eq.trans ?_ (reached_at _ k hi hr)
  rw [← hb]
  rfl

theorem exponent {a : FVec Ideal S128x1 .f32} {i : S128x1.Idx} (ha : 0 ≤ a i) {n : ℕ} (h : Level (ratio a i) n) :
    expoVec a (count (ratio a)) i = expo (BitVec.ofNat 32 n) := by
  have hn := h.1
  have hc := count_apply _ i (ratio_nonneg ha) h
  generalize count (ratio a) = c at hc
  have e : expoVec a c i = Scalar.select (BitVec.ofBool (decide (a i = Ideal.ofBits .f32 0x00000000#32))) 0#32
      (Scalar.select (IntOp.ori (IntOp.cmpi .eq (c i) 0#32) (IntOp.cmpi .eq (c i) 255#32)) 0#32 (IntOp.subi (c i) 126#32)) := rfl
  rw [e, sel_one, hc, sel_expo ⟨n, by omega⟩, Ideal.ofBits_zero_f32]
  by_cases h0 : a i = 0
  · have hr : ratio a i = 0 := by
      show a i * _ = 0
      rw [h0, zero_mul]
    have hn : n = 0 := by
      by_contra hc
      have h1 := (h.2 1 le_rfl (by norm_num)).2 (by omega)
      rw [hr, ← pow_zero] at h1
      exact absurd (pow_lt (show 0 < 1 by norm_num) (by norm_num)) (not_lt.2 h1)
    subst hn
    rw [if_pos (decide_eq_true h0)]
    decide
  · rw [if_neg (by simpa using h0)]

theorem powVec_apply (e : IVec S128x1 32) (i : S128x1.Idx) (k : Fin 256) (h : clip (e i) = BitVec.ofNat 32 k.val) : powVec e i = pow k.val := by
  have e' : powVec e i = Ideal.ofBits .f32 (IntOp.shli .vector (clip (e i)) 23#32) := rfl
  rw [e', h, (lane_words k).1]
  rfl

theorem least_apply (r : FVec Ideal S128x1 .f32) (i : S128x1.Idx) :
    least r i = (Finset.univ : Finset (Fin 254)).fold min ⊤ (fun j => if r i < pow (j.val + 1) then pow (j.val + 1) else ⊤) := by
  refine (row_min (M := 128) (N := 254) (aboves r) _ _ _ _ _ i).trans ?_
  rw [show Ideal.ofBits .f32 0x7F800000#32 = pow 255 from rfl, pow_255]
  refine congrArg (fun f => (Finset.univ : Finset (Fin 254)).fold min ⊤ f) (funext fun k => ?_)
  have hi : iota .tc ⟨2, ![128, 254]⟩ 32 [1] Cert.ReferenceIdeal.Gen.iota_S128x254_d1_w32 (ix2 (rowOf i) k) = BitVec.ofNat 32 k.val :=
    iota_single_apply _ _ _ _ _ _
  have hb : broadcastTo ⟨2, ![128, 254]⟩ r Cert.ReferenceIdeal.Gen.broadcasts_S128x1_S128x254 (ix2 (rowOf i) k) = r i :=
    spread_apply r _ i k
  refine Eq.trans ?_ (above_at _ k hi (r i))
  rw [← hb]
  rfl

theorem scaleVec_apply (r : FVec Ideal S128x1 .f32) (i : S128x1.Idx) {n : ℕ} (h : Level (r i) n) :
    scaleVec r (least r) i = pow (field n) := by
  rw [← scale_at h, ← least_apply]
  generalize least r = l
  have e : scaleVec r l i = Scalar.select (IntOp.ori (BitVec.ofBool (decide (r i < Ideal.ofBits .f32 0x00800000#32)))
      (BitVec.ofBool (decide (r i = Ideal.ofBits .f32 0x7F800000#32)))) (Ideal.ofBits .f32 0x3F800000#32) (l i) := rfl
  rw [e, sel_or]
  simp only [decide_eq_true_eq]
  rfl

theorem refInv_apply (c : FVec Ideal S128x1 .f32) (i : S128x1.Idx) {k : ℕ} (h1 : 1 ≤ k) (h2 : k ≤ 255) (h : c i = pow k) :
    refInv c i = pow (254 - k) := by
  rw [← inverse h1 h2, ← h]
  have e : refInv c i = Scalar.select (BitVec.ofBool (decide (c i < Ideal.ofBits .f32 0x7F000000#32)))
      (Ideal.div (Ideal.ofBits .f32 0x3F800000#32) (c i)) (Ideal.ofBits .f32 0x00000000#32) := rfl
  rw [e, sel_one, Ideal.ofBits_zero_f32]
  simp only [decide_eq_true_eq]
  rfl

/-! ## The scales and the codes are equal -/

/-- The two scales are one. -/
theorem scale_eq : Cert.ReferenceIdeal.Gen.k0_pay3 (F := Ideal) x s = scaleOf x s := by
  rw [reference_scale, kernel_scale, kernel_expo]
  funext i
  have ha := amax_nonneg (k0_pay4 x s) i
  generalize amax (k0_pay4 x s) = a at ha
  obtain ⟨n, h⟩ := exists_level (ratio a i)
  have hn := h.1
  rw [scaleVec_apply _ i h]
  refine (powVec_apply _ i ⟨field n, by have := field_le hn; omega⟩ ?_).symm
  rw [exponent ha h]
  exact (clip_expo ⟨n, by omega⟩).1

/-- The two multipliers are one. -/
theorem inverse_eq : refInv (Cert.ReferenceIdeal.Gen.k0_pay3 (F := Ideal) x s) = powVec (subi (broadcast S128x1 0#32) (k0_pay5 x s)) := by
  rw [reference_scale, kernel_expo]
  funext i
  have ha := amax_nonneg (k0_pay4 x s) i
  generalize amax (k0_pay4 x s) = a at ha
  obtain ⟨n, h⟩ := exists_level (ratio a i)
  have hn := h.1
  rw [refInv_apply _ i (field_pos n) (field_le hn) (scaleVec_apply _ i h)]
  refine (powVec_apply _ i ⟨254 - field n, by omega⟩ ?_).symm
  show clip (0#32 - expoVec a (count (ratio a)) i) = _
  rw [exponent ha h]
  exact (clip_expo ⟨n, by omega⟩).2

/-- The two arrays of codes are one. -/
theorem codes_eq : Cert.ReferenceIdeal.Gen.k0_pay4 (F := Ideal) x s = codesOf x s := by
  rw [reference_codes, inverse_eq, kernel_codes]

end Cert.Quant

end
-- ==== Proof.Algebraic.lean ====
/- The idealized kernel and the idealized reference end with equal results. -/
module

public import proofs.«01_k».proof.Defs
public import proofs.«01_k».proof.Proof.KernelValue
public import proofs.«01_k».proof.Proof.ReferenceValue
public import proofs.«01_k».proof.Proof.Quantise

@[expose] public section

set_option maxRecDepth 16384

noncomputable section

namespace Cert.Proof

open Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The argument arrays of the two programs agree. -/
abbrev Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m'}

/-- So the arrays their regions find agree: the inputs, the smoothing factors, the weights, their scales and the bias. -/
theorem entry_x (h : Agree m m') (c : Dev Cert.KernelIdeal.nD) :
    (Cert.ReferenceIdeal.Gen.V m' c Cert.ReferenceIdeal.main_v0 : Vec Ideal Cert.KernelIdeal.S128x8192 .f32) = Cert.KernelIdeal.Gen.V m c Cert.KernelIdeal.main_v0 :=
  (Cert.ReferenceIdeal.Whole.V_main_v0 m' c).trans
    ((congrArg (fun a => shapeCast Cert.KernelIdeal.S128x8192 a Cert.KernelIdeal.Gen.shapeCasts_S128x1x8192_S128x8192) (h c).1).trans
      (Cert.KernelIdeal.Run.V_main_v0 m c).symm)
theorem entry_s (h : Agree m m') (c : Dev Cert.KernelIdeal.nD) :
    (Cert.ReferenceIdeal.Gen.V m' c Cert.ReferenceIdeal.main_v1 : Vec Ideal Cert.KernelIdeal.S1x8192 .f32) = Cert.KernelIdeal.Gen.V m c Cert.KernelIdeal.main_v1 :=
  (Cert.ReferenceIdeal.Whole.V_main_v1 m' c).trans
    ((congrArg (fun a => shapeCast Cert.KernelIdeal.S1x8192 a Cert.KernelIdeal.Gen.shapeCasts_S8192_S1x8192) (h c).2.1).trans
      (Cert.KernelIdeal.Run.V_main_v1 m c).symm)
theorem entry_w (h : Agree m m') (c : Dev Cert.KernelIdeal.nD) :
    (Cert.ReferenceIdeal.Gen.V m' c Cert.ReferenceIdeal.main_arg2 : Vec Ideal Cert.ReferenceIdeal.S8192x8192 .fp8e4m3) = Cert.KernelIdeal.Gen.V m c Cert.KernelIdeal.main_arg2 :=
  (Cert.ReferenceIdeal.Gen.V_main_arg2 m' c).trans ((h c).2.2.1.trans (Cert.KernelIdeal.Gen.V_main_arg2 m c).symm)
theorem entry_ws (h : Agree m m') (c : Dev Cert.KernelIdeal.nD) :
    (Cert.ReferenceIdeal.Gen.V m' c Cert.ReferenceIdeal.main_v2 : Vec Ideal Cert.KernelIdeal.S1x8192 .f32) = Cert.KernelIdeal.Gen.V m c Cert.KernelIdeal.main_v2 :=
  (Cert.ReferenceIdeal.Whole.V_main_v2 m' c).trans
    ((congrArg (fun a => shapeCast Cert.KernelIdeal.S1x8192 a Cert.KernelIdeal.Gen.shapeCasts_S8192_S1x8192) (h c).2.2.2.1).trans
      (Cert.KernelIdeal.Run.V_main_v2 m c).symm)
theorem entry_b (h : Agree m m') (c : Dev Cert.KernelIdeal.nD) :
    (Cert.ReferenceIdeal.Gen.V m' c Cert.ReferenceIdeal.main_v3 : Vec Ideal Cert.KernelIdeal.S1x8192 .f32) = Cert.KernelIdeal.Gen.V m c Cert.KernelIdeal.main_v3 :=
  (Cert.ReferenceIdeal.Whole.V_main_v3 m' c).trans
    ((congrArg (fun a => shapeCast Cert.KernelIdeal.S1x8192 a Cert.KernelIdeal.Gen.shapeCasts_S8192_S1x8192) (h c).2.2.2.2).trans
      (Cert.KernelIdeal.Run.V_main_v3 m c).symm)

/-- The scales agree: the reference's smallest power of two above a row's bound is the kernel's. -/
theorem scale_agree (h : Agree m m') (c : Dev Cert.KernelIdeal.nD) :
    Cert.ReferenceIdeal.Whole.scale m' c = Cert.KernelIdeal.Run.scale m c := by
  unfold Cert.ReferenceIdeal.Whole.scale Cert.KernelIdeal.Run.scale
  rw [entry_x h c, entry_s h c, Cert.KernelIdeal.Run.xBlk_eq, Cert.KernelIdeal.Run.sBlk_eq]
  exact Cert.Quant.scale_eq _ _

/-- The codes agree. -/
theorem codes_agree (h : Agree m m') (c : Dev Cert.KernelIdeal.nD) :
    Cert.ReferenceIdeal.Whole.codes m' c = Cert.KernelIdeal.Run.codes m c := by
  unfold Cert.ReferenceIdeal.Whole.codes Cert.KernelIdeal.Run.codes
  rw [entry_x h c, entry_s h c, Cert.KernelIdeal.Run.xBlk_eq, Cert.KernelIdeal.Run.sBlk_eq]
  exact Cert.Quant.codes_eq _ _

/-- The reference's `y` is the codes times the whole of the weights, scaled and biased. -/
theorem reference_dequant (q : Vec Ideal Cert.KernelIdeal.S128x8192 .fp8e4m3) (w : Vec Ideal Cert.ReferenceIdeal.S8192x8192 .fp8e4m3)
    (s : Vec Ideal Cert.KernelIdeal.S128x1 .f32) (ws b : Vec Ideal Cert.KernelIdeal.S1x8192 .f32) :
    (Cert.ReferenceIdeal.Gen.k0_pay1 (F := Ideal) s q w ws b : Vec Ideal Cert.KernelIdeal.S128x8192 .f32)
      = Cert.Quant.dequant (M := 128) (K := 8192) (N := 8192) q w s ws b Cert.KernelIdeal.Run.broadcasts_column Cert.KernelIdeal.Run.broadcasts_row := by
  refine Eq.trans ?_ (Cert.Quant.dequant_cast' (M := 128) (K := 8192) (N := 8192) q w s ws b Cert.KernelIdeal.Run.broadcasts_column
    Cert.KernelIdeal.Run.broadcasts_row Cert.KernelIdeal.Gen.shapeCasts_S1x8192_S1x8192 Cert.KernelIdeal.Gen.shapeCasts_S1x8192_S1x8192)
  rfl

/-- `y` agrees. -/
theorem y_agree (h : Agree m m') (c : Dev Cert.KernelIdeal.nD) :
    Cert.ReferenceIdeal.Whole.y m' c = Cert.KernelIdeal.Run.yAll m c := by
  unfold Cert.ReferenceIdeal.Whole.y Cert.KernelIdeal.Run.yAll
  rw [scale_agree h c, codes_agree h c, entry_w h c, entry_ws h c, entry_b h c]
  exact reference_dequant _ _ _ _ _

/-- The algebraic claim: from equal arguments both programs run, and end with equal results and unchanged arguments. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => Cert.KernelIdeal.Run.yAll m c, fun c => Cert.KernelIdeal.Run.codes m c, fun c => Cert.KernelIdeal.Run.scale m c,
    Cert.KernelIdeal.Run.run_values m g, ?_⟩
  refine (θ_run _ _ _).mono (fun _ hr c => ?_) (Cert.ReferenceIdeal.Whole.run_values m' g')
  exact ⟨(hr c).1.trans (y_agree h c), (hr c).2.1.trans (codes_agree h c), (hr c).2.2.1.trans (scale_agree h c), (hr c).2.2.2⟩

end Cert.Proof

end
-- ==== Proof.lean ====
module

public import proofs.«01_k».proof.Defs
public import proofs.«01_k».proof.Proof.KernelFrame
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- The claims: the three programs' frames, the rewritten kernel's rounding kept, and the algebraic claim. -/
theorem claim : Cert.Claim := ⟨Cert.Kernel.Gen.facts, Cert.KernelIdeal.Gen.facts, Cert.ReferenceIdeal.Gen.facts,
  kernel_frame, fun m ρ _ => Cert.KernelIdeal.Run.frame m ρ,
  fun m ρ _ => Cert.ReferenceIdeal.Gen.frame m ρ, trivial, algebraic⟩

end Cert.Proof

end
